-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_negative_graph [hPre_no_negative_graph : Cert.Pre_no_negative_graph.Facts] (m : (ℓ : Loc Cert.KernelIdeal.nD Cert.KernelIdeal.τ Cert.KernelIdeal.sig) → Buf (Elt Ideal) ℓ) : Prop :=
  ∀ c : Dev Cert.KernelIdeal.nD,
    (Cert.Pre_no_negative_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_negative_graph [hPre_no_negative_graph : Cert.Pre_no_negative_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_negative_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_negative_graph [hKernelIdeal : Cert.KernelIdeal.Facts] [hPre_no_negative_graph : Cert.Pre_no_negative_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_negative_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_negative_graph [hReferenceIdeal : Cert.ReferenceIdeal.Facts] [hPre_no_negative_graph : Cert.Pre_no_negative_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_negative_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_no_negative_graph [hKernelIdeal : Cert.KernelIdeal.Facts] [hReferenceIdeal : Cert.ReferenceIdeal.Facts] [hPre_no_negative_graph : Cert.Pre_no_negative_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_negative_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_negative_graph : Cert.Pre_no_negative_graph.Facts),
    quiescent_Kernel (hKernel := hKernel)
    ∧ quiescent_KernelIdeal (hKernelIdeal := hKernelIdeal)
    ∧ quiescent_KernelIdeal_pre_no_negative_graph (hKernelIdeal := hKernelIdeal) (hPre_no_negative_graph := hPre_no_negative_graph)
    ∧ quiescent_ReferenceIdeal (hReferenceIdeal := hReferenceIdeal)
    ∧ quiescent_ReferenceIdeal_pre_no_negative_graph (hReferenceIdeal := hReferenceIdeal) (hPre_no_negative_graph := hPre_no_negative_graph)
    ∧ preserves_Kernel_KernelIdeal
    ∧ algebraic_KernelIdeal_ReferenceIdeal_pre_no_negative_graph (hKernelIdeal := hKernelIdeal) (hReferenceIdeal := hReferenceIdeal) (hPre_no_negative_graph := hPre_no_negative_graph)
-- ==== Pre_no_negative_graph.lean ====
abbrev S100000x128 : Shape := ⟨2, ![100000, 128]⟩
abbrev S100000 : Shape := ⟨1, ![100000]⟩
abbrev S128x32 : Shape := ⟨2, ![128, 32]⟩
abbrev S32x1x1 : Shape := ⟨3, ![32, 1, 1]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x128 .f32) (main_arg1 : IVec S100000 32) (main_arg2 : FVec F S128x32 .f32) (main_arg3 : FVec F S32x1x1 .f32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  main_v1
-- ==== Kernel.lean ====
abbrev S100000x128 : Shape := ⟨2, ![100000, 128]⟩
abbrev S100000 : Shape := ⟨1, ![100000]⟩
abbrev S128x32 : Shape := ⟨2, ![128, 32]⟩
abbrev S32x1x1 : Shape := ⟨3, ![32, 1, 1]⟩
abbrev S10x1x10000 : Shape := ⟨3, ![10, 1, 10000]⟩
abbrev S1x32 : Shape := ⟨2, ![1, 32]⟩
abbrev S128x1024 : Shape := ⟨2, ![128, 1024]⟩
abbrev S128x32x32 : Shape := ⟨3, ![128, 32, 32]⟩
abbrev S10000x128 : Shape := ⟨2, ![10000, 128]⟩
abbrev S1x1x10000 : Shape := ⟨3, ![1, 1, 10000]⟩
abbrev S1024x128 : Shape := ⟨2, ![1024, 128]⟩
abbrev S8x128 : Shape := ⟨2, ![8, 128]⟩
abbrev S32x10000 : Shape := ⟨2, ![32, 10000]⟩
abbrev S128x10000 : Shape := ⟨2, ![128, 10000]⟩
abbrev S1x10000 : Shape := ⟨2, ![1, 10000]⟩
abbrev S8x10000 : Shape := ⟨2, ![8, 10000]⟩
abbrev S1x1 : Shape := ⟨2, ![1, 1]⟩
abbrev S1024x10000 : Shape := ⟨2, ![1024, 10000]⟩
abbrev S1x128 : Shape := ⟨2, ![1, 128]⟩
abbrev S128 : Shape := ⟨1, ![128]⟩
abbrev S128x1 : Shape := ⟨2, ![128, 1]⟩

abbrev nBuf : Space → Nat
  | .hbm => 8
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x32, .f32⟩
  | .hbm, ⟨3, _⟩ => ⟨S32x1x1, .f32⟩
  | .hbm, ⟨4, _⟩ => ⟨S10x1x10000, .i32⟩
  | .hbm, ⟨5, _⟩ => ⟨S1x32, .f32⟩
  | .hbm, ⟨6, _⟩ => ⟨S128x1024, .f32⟩
  | .hbm, ⟨7, _⟩ => ⟨S128x32x32, .f32⟩
  | .local _ .vmem, ⟨0, _⟩ => ⟨S10000x128, .f32⟩
  | .local _ .vmem, ⟨1, _⟩ => ⟨S10000x128, .f32⟩
  | .local _ .vmem, ⟨2, _⟩ => ⟨S1x1x10000, .i32⟩
  | .local _ .vmem, ⟨3, _⟩ => ⟨S1x1x10000, .i32⟩
  | .local _ .vmem, ⟨4, _⟩ => ⟨S128x32, .f32⟩
  | .local _ .vmem, ⟨5, _⟩ => ⟨S1x32, .f32⟩
  | .local _ .vmem, ⟨6, _⟩ => ⟨S128x1024, .f32⟩
  | .local _ .vmem, ⟨7, _⟩ => ⟨S1024x128, .f32⟩
  | .local _ .vmem, ⟨8, _⟩ => ⟨S8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v255 : BitVec 1 := Scalar.cmpi .eq arg0 c9_i32
  let v256 : BitVec 32 := Scalar.extui v255
  let c0_i32_84 : BitVec 32 := 0#32
  let v257 : BitVec 1 := Scalar.cmpi .ne v256 c0_i32_84
  v257

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x128 : Shape := ⟨2, ![100000, 128]⟩
abbrev S100000 : Shape := ⟨1, ![100000]⟩
abbrev S128x32 : Shape := ⟨2, ![128, 32]⟩
abbrev S32x1x1 : Shape := ⟨3, ![32, 1, 1]⟩
abbrev S100000x32 : Shape := ⟨2, ![100000, 32]⟩
abbrev S1x100000x32 : Shape := ⟨3, ![1, 100000, 32]⟩
abbrev S32x100000x32 : Shape := ⟨3, ![32, 100000, 32]⟩
abbrev S_ : Shape := ⟨0, ![]⟩
abbrev S32x128x32 : Shape := ⟨3, ![32, 128, 32]⟩
abbrev S100000x1 : Shape := ⟨2, ![100000, 1]⟩
abbrev S128x32x32 : Shape := ⟨3, ![128, 32, 32]⟩

abbrev nBuf : Space → Nat
  | .hbm => 32
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x32, .f32⟩
  | .hbm, ⟨3, _⟩ => ⟨S32x1x1, .f32⟩
  | .hbm, ⟨4, _⟩ => ⟨S100000x32, .f32⟩
  | .hbm, ⟨5, _⟩ => ⟨S1x100000x32, .f32⟩
  | .hbm, ⟨6, _⟩ => ⟨S32x100000x32, .f32⟩
  | .hbm, ⟨7, _⟩ => ⟨S32x100000x32, .f32⟩
  | .hbm, ⟨8, _⟩ => ⟨S32x100000x32, .f32⟩
  | .hbm, ⟨9, _⟩ => ⟨S_, .f32⟩
  | .hbm, ⟨10, _⟩ => ⟨S32x100000x32, .f32⟩
  | .hbm, ⟨11, _⟩ => ⟨S32x100000x32, .f32⟩
  | .hbm, ⟨12, _⟩ => ⟨S32x100000x32, .f32⟩
  | .hbm, ⟨13, _⟩ => ⟨S32x100000x32, .f32⟩
  | .hbm, ⟨14, _⟩ => ⟨S_, .f32⟩
  | .hbm, ⟨15, _⟩ => ⟨S32x100000x32, .f32⟩
  | .hbm, ⟨16, _⟩ => ⟨S32x100000x32, .f32⟩
  | .hbm, ⟨17, _⟩ => ⟨S_, .f32⟩
  | .hbm, ⟨18, _⟩ => ⟨S32x100000x32, .f32⟩
  | .hbm, ⟨19, _⟩ => ⟨S32x100000x32, .f32⟩
  | .hbm, ⟨20, _⟩ => ⟨S_, .f32⟩
  | .hbm, ⟨21, _⟩ => ⟨S32x128x32, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S32x128x32, .f32⟩
  | .hbm, ⟨31, _⟩ => ⟨S128x32x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Block.lean ====
/-
  What one grid point computes. At a point the kernel holds a block of 10000 points `x`, their graph numbers `b`, all
  directions `v` and all heights `l`. It stacks 32 bands of `tanh` values, one band per height, and multiplies the stack
  with the block's one-hot matrix. This file states that product at an index as a sum over the block's points, and
  says what each of the three cases of a grid point leaves in the two scratch arrays and in the output block.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.KernelIdeal.Value

open Idealize.ShloMosaic Idealize.ShloMosaic.TcCoe Idealize.SL.Sem
open Cert.KernelIdeal.Gen

/-- Height number `s` of the row of heights, as the one-element array that the kernel loads. -/
def heightCell (l : Vec Ideal S1x32 .f32) (s : Fin 32) : Vec Ideal S1x1 .f32 := fun _ => l (ix2 0 s)

/-- The load of one element at column `s` of the row of heights is the height's one-element array. -/
theorem ld_height (l : Vec Ideal S1x32 .f32) (s : Nat) (hs : s < 32) (inb) :
    View.ld l (Rect.unit (![0, s] : Fin S1x32.rank → Nat) (![1, 1] : Fin S1x32.rank → Nat) inb) = heightCell l ⟨s, hs⟩ := by
  funext y
  refine View.ld_unit_apply_of l _ _ _ y (ix2 0 ⟨s, hs⟩) fun a => ?_
  have e : ∀ b : Fin 2, ((y b).val : Nat) = 0 := fun b => by
    have h := (y b).isLt
    have e : ∀ b : Fin 2, (![1, 1] : Fin 2 → Nat) b = 1 := by decide
    have h' : (y b).val < (![1, 1] : Fin 2 → Nat) b := h
    rw [e b] at h'
    omega
  fin_cases a
  · simpa using e 0
  · simpa using e 1

/-- Thirty-two bands of 32 rows are 1024 rows. -/
theorem bands_fit (g : Fin 32 → (S32x10000.Idx → Ideal .bf16)) :
    Shape.Concatenates ((List.ofFn fun s : Fin 32 => (⟨S32x10000, g s⟩ : (s : Shape) × (s.Idx → Ideal .bf16))).map (·.1)) S1024x10000 0 := by
  rw [List.map_ofFn]
  show Shape.Concatenates (List.ofFn fun _ : Fin 32 => S32x10000) S1024x10000 0
  decide

/-- The bands of `tanh` values of one block, band `s` at rows `32 s` to `32 s + 31`. -/
def bands (x : Vec Ideal S10000x128 .f32) (v : Vec Ideal S128x32 .f32) (f : Fin 32 → Vec Ideal S1x1 .f32) :
    FVec Ideal S1024x10000 .bf16 :=
  concatenate S1024x10000 0 (List.ofFn fun s : Fin 32 => ⟨S32x10000, k0_pay10 (k0_pay4 v x) (f s)⟩) (bands_fit _)

/-- One block's product of the bands with the one-hot matrix. -/
def bandProd (x : Vec Ideal S10000x128 .f32) (b : Vec Ideal S1x1x10000 .i32) (v : Vec Ideal S128x32 .f32) (f : Fin 32 → Vec Ideal S1x1 .f32) :
    FVec Ideal S1024x128 .f32 :=
  matmul dot_S1024x10000_S128x10000_S1024x128_1_1_0_0_n_n none (bands x v f) (k0_pay5 b) (constant S1024x128 .f32 0x00000000#32)

/-- The body's long chain of operations is the product of the stacked bands with the one-hot matrix. -/
theorem chain_eq (x : Vec Ideal S10000x128 .f32) (b : Vec Ideal S1x1x10000 .i32) (v : Vec Ideal S128x32 .f32) (f : Fin 32 → Vec Ideal S1x1 .f32) :
    k0_pay34 (k0_pay4 v x) (k0_pay5 b) (k0_pay7 v x (f 0)) (k0_pay8 v x (f 1)) (k0_pay9 v x (f 2)) (k0_pay10 (k0_pay4 v x) (f 3)) (k0_pay11 (k0_pay4 v x) (f 4)) (k0_pay12 (k0_pay4 v x) (f 5)) (k0_pay13 (k0_pay4 v x) (f 6)) (k0_pay14 (k0_pay4 v x) (f 7)) (k0_pay15 (k0_pay4 v x) (f 8)) (k0_pay16 (k0_pay4 v x) (f 9)) (k0_pay17 (k0_pay4 v x) (f 10)) (k0_pay18 (k0_pay4 v x) (f 11)) (k0_pay19 (k0_pay4 v x) (f 12)) (k0_pay20 (k0_pay4 v x) (f 13)) (k0_pay21 (k0_pay4 v x) (f 14)) (k0_pay22 (k0_pay4 v x) (f 15)) (k0_pay23 (k0_pay4 v x) (f 16)) (k0_pay24 (k0_pay4 v x) (f 17)) (k0_pay25 (k0_pay4 v x) (f 18)) (k0_pay26 (k0_pay4 v x) (f 19)) (k0_pay27 (k0_pay4 v x) (f 20)) (k0_pay28 (k0_pay4 v x) (f 21)) (k0_pay29 (k0_pay4 v x) (f 22)) (k0_pay30 (k0_pay4 v x) (f 23)) (k0_pay31 (k0_pay4 v x) (f 24)) (k0_pay32 (k0_pay4 v x) (f 25)) (k0_pay33 (k0_pay4 v x) (f 26)) (f 27) (f 28) (f 29) (f 30) (f 31)
      = bandProd x b v f := by
  rfl

/-- One element of the one-hot matrix: 1 where the point's graph number is `g`, 0 elsewhere. -/
def hit (g : Fin 128) (n : BitVec 32) : EReal := if n = BitVec.ofNat 32 g.val then 1 else 0

/-- The one-hot matrix at graph `g` and point `k`. -/
theorem onehot_at (b : Vec Ideal S1x1x10000 .i32) (g : Fin 128) (k : Fin 10000) :
    k0_pay5 b (ix2 g k) = hit g (b (ix3 0 0 k)) := by
  pointwise [k0_pay5, hit]
  by_cases h : b (ix3 0 0 k) = BitVec.ofNat 32 g.val
  · rw [if_pos h, h, show IntOp.cmpi .eq (BitVec.ofNat 32 g.val) (BitVec.ofNat 32 g.val) = 1#1 by simp [IntOp.cmpi]]
    show (((BitVec.setWidth 32 1#1).toInt : ℝ) : EReal) = 1
    norm_num
  · rw [if_neg h, show IntOp.cmpi .eq (BitVec.ofNat 32 g.val) (b (ix3 0 0 k)) = 0#1 by
      unfold IntOp.cmpi
      dsimp only
      rw [beq_eq_false_iff_ne.mpr (Ne.symm h)]
      rfl]
    show (((BitVec.setWidth 32 0#1).toInt : ℝ) : EReal) = 0
    norm_num

/-- One band of `tanh` values at direction `t` and point `k`. -/
theorem band_at (x : Vec Ideal S10000x128 .f32) (v : Vec Ideal S128x32 .f32) (c : Vec Ideal S1x1 .f32) (t : Fin 32) (k : Fin 10000) :
    k0_pay10 (k0_pay4 v x) c (ix2 t k)
      = Ideal.tanh (c (ix2 0 0) * Ideal.ofBits .f32 0x41C80000#32 - (∑ q : Fin 128, v (ix2 q t) * x (ix2 k q)) * Ideal.ofBits .f32 0x41C80000#32) := by
  pointwise [k0_pay10, k0_pay4]

/-- One block's product, at row `r` and graph `g`. -/
theorem bandProd_at (x : Vec Ideal S10000x128 .f32) (b : Vec Ideal S1x1x10000 .i32) (v : Vec Ideal S128x32 .f32) (f : Fin 32 → Vec Ideal S1x1 .f32)
    (s t : Fin 32) (r : Fin 1024) (hr : r.val = 32 * s.val + t.val) (g : Fin 128) :
    bandProd x b v f (ix2 r g) = ∑ k : Fin 10000, k0_pay10 (k0_pay4 v x) (f s) (ix2 t k) * hit g (b (ix3 0 0 k)) := by
  have hband : ∀ k : Fin 10000, bands x v f (ix2 r k) = k0_pay10 (k0_pay4 v x) (f s) (ix2 t k) := fun k => by
    unfold bands
    refine concatenate_ofFn_apply (t := S1024x10000) (s₁ := S32x10000) 0 _ _ rfl 32 rfl (ix2 r k) s ?_ (ix2 t k) ?_ ?_
    · show r.val / 32 = s.val
      omega
    · show t.val = r.val % 32
      omega
    · intro a ha
      fin_cases a
      · exact absurd rfl ha
      · rfl
  pointwise [bandProd]
  simp only [hband, onehot_at]

/-- One block's count of points per graph (each of the eight rows holds it). -/
theorem count_at (b : Vec Ideal S1x1x10000 .i32) (j : Fin 8) (g : Fin 128) :
    k0_pay6 b (ix2 j g) = ∑ k : Fin 10000, hit g (b (ix3 0 0 k)) := by
  pointwise [k0_pay6]
  simp only [onehot_at, one_mul]

/-- The output block: half the sum of `tanh` values plus half the count. -/
theorem close_at (acc : Vec Ideal S1024x128 .f32) (cnt : Vec Ideal S1x128 .f32) (g : Fin 128) (r : Fin 1024) :
    k0_pay3 acc cnt (ix2 g r)
      = Ideal.ofBits .f32 0x3F000000#32 * acc (ix2 r g) + Ideal.ofBits .f32 0x3F000000#32 * cnt (ix2 0 g) := by
  pointwise [k0_pay3]

variable (m : (ℓ : Loc nD τ sig) → Buf (Elt Ideal) ℓ)

/-- The heights' one-element arrays, as block `t`'s body loads them. -/
def cells (c : Dev nD) (t : Fin cfg0.N) : Fin 32 → Vec Ideal S1x1 .f32 := heightCell (iblk m c 3 t)

/-- What point `t` adds to the accumulator. -/
def accTerm (c : Dev nD) (t : Fin cfg0.N) : FVec Ideal S1024x128 .f32 :=
  bandProd (iblk m c 0 t) (iblk m c 1 t) (iblk m c 2 t) (cells m c t)

/-- What point `t` adds to the counts. -/
def cntTerm (c : Dev nD) (t : Fin cfg0.N) : FVec Ideal S8x128 .f32 := k0_pay6 (iblk m c 1 t)

/-- The first point leaves its own term in the accumulator. -/
theorem acc_first (c : Dev nD) (t : Fin cfg0.N) (h0 : t.val % 10 = 0) (i : S1024x128.Idx) :
    (outsAt0 m c t.val t.isLt).2.1 i = 0 + accTerm m c t i := by
  have h1 : ¬t.val % 10 = 9 := by omega
  rw [outsAt0_A m c t h0 h1]
  dsimp only
  frame_out
  simp (disch := decide) only [ld_height]
  refine (congrArg (fun P => k0_pay1 P _ i) (chain_eq _ _ _ (cells m c t))).trans ?_
  pointwise [k0_pay1, k0_pay35, accTerm]

/-- Every later point adds its term to the accumulator. -/
theorem acc_step (c : Dev nD) (t : Fin cfg0.N) (h0 : ¬t.val % 10 = 0) (i : S1024x128.Idx) :
    (outsAt0 m c t.val t.isLt).2.1 i
      = (outsAt0 m c (t.val - 1) (Nat.lt_of_le_of_lt (Nat.sub_le _ _) t.isLt)).2.1 i + accTerm m c t i := by
  by_cases h1 : t.val % 10 = 9
  · rw [outsAt0_C m c t h0 h1]
    dsimp only
    frame_out
    simp only [read_unread_whole]
    simp (disch := decide) only [ld_height]
    refine (congrArg (fun P => k0_pay1 P _ i) (chain_eq _ _ _ (cells m c t))).trans ?_
    pointwise [k0_pay1, accTerm]
  · rw [outsAt0_B m c t h0 h1]
    dsimp only
    frame_out
    simp only [read_unread_whole]
    simp (disch := decide) only [ld_height]
    refine (congrArg (fun P => k0_pay1 P _ i) (chain_eq _ _ _ (cells m c t))).trans ?_
    pointwise [k0_pay1, accTerm]

/-- The first point leaves its own term in the counts. -/
theorem cnt_first (c : Dev nD) (t : Fin cfg0.N) (h0 : t.val % 10 = 0) (i : S8x128.Idx) :
    (outsAt0 m c t.val t.isLt).2.2 i = 0 + cntTerm m c t i := by
  have h1 : ¬t.val % 10 = 9 := by omega
  rw [outsAt0_A m c t h0 h1]
  dsimp only
  frame_out
  pointwise [k0_pay2, k0_pay36, cntTerm]

/-- Every later point adds its term to the counts. -/
theorem cnt_step (c : Dev nD) (t : Fin cfg0.N) (h0 : ¬t.val % 10 = 0) (i : S8x128.Idx) :
    (outsAt0 m c t.val t.isLt).2.2 i
      = (outsAt0 m c (t.val - 1) (Nat.lt_of_le_of_lt (Nat.sub_le _ _) t.isLt)).2.2 i + cntTerm m c t i := by
  by_cases h1 : t.val % 10 = 9
  · rw [outsAt0_C m c t h0 h1]
    dsimp only
    frame_out
    simp only [read_unread_whole]
    pointwise [k0_pay2, cntTerm]
  · rw [outsAt0_B m c t h0 h1]
    dsimp only
    frame_out
    simp only [read_unread_whole]
    pointwise [k0_pay2, cntTerm]

/-- The first row of an eight-row array, read back right after the whole array was stored. -/
theorem row_read {κ : Kind} {sp : Space} (v : View sig κ sp S8x128 .f32) (X : Vec Ideal S8x128 .f32)
    (inb : ∀ a : Fin S8x128.rank, (![0, 0] : Fin S8x128.rank → Nat) a + (![8, 128] : Fin S8x128.rank → Nat) a ≤ S8x128.size a)
    (inb' : ∀ a : Fin S8x128.rank, (![0, 0] : Fin S8x128.rank → Nat) a + (![1, 128] : Fin S8x128.rank → Nat) a ≤ S8x128.size a) (g : Fin 128) :
    v.readCov (Val := Elt Ideal) [⟨Rect.unit (![0, 0] : Fin S8x128.rank → Nat) (![8, 128] : Fin S8x128.rank → Nat) inb, X⟩]
      (Rect.unit (s := S8x128) (![0, 0] : Fin S8x128.rank → Nat) (![1, 128] : Fin S8x128.rank → Nat) inb').toLoadRect
      (ix2 (0 : Fin 1) g : S1x128.Idx) = X (ix2 0 g) := by
  have hz : (![0, 0] : Fin 2 → Nat) = fun _ => 0 := by decide
  rw [View.readCov_eq_canon_ld v _ _ fun y => ⟨_, List.mem_singleton_self _, by
    rw [Rect.mem_set_unit]
    intro a
    fin_cases a
    · exact ⟨Nat.zero_le _, by simpa using (y 0).isLt⟩
    · exact ⟨Nat.zero_le _, by simpa using (y 1).isLt⟩⟩]
  rw [View.ld_unit_apply_of _ _ _ _ _ (ix2 0 g) fun a => by fin_cases a <;> simp]
  exact congrFun (View.canon_unit_zero hz inb X) _

/-- The last point writes the output block from the accumulator and the counts it leaves. -/
theorem out_last (c : Dev nD) (t : Fin cfg0.N) (h1 : t.val % 10 = 9) (g : Fin 128) (r : Fin 1024) :
    (outsAt0 m c t.val t.isLt).1 (ix2 g r)
      = Ideal.ofBits .f32 0x3F000000#32 * (outsAt0 m c t.val t.isLt).2.1 (ix2 r g)
        + Ideal.ofBits .f32 0x3F000000#32 * (outsAt0 m c t.val t.isLt).2.2 (ix2 0 g) := by
  have h0 : ¬t.val % 10 = 0 := by omega
  rw [acc_step m c t h0, cnt_step m c t h0, outsAt0_C m c t h0 h1]
  dsimp only
  frame_out
  simp only [read_unread_whole]
  simp (disch := decide) only [ld_height]
  rw [close_at, row_read]
  refine congrArg₂ (fun P Q => Ideal.ofBits .f32 0x3F000000#32 * P + Ideal.ofBits .f32 0x3F000000#32 * Q)
    ((congrArg (fun P => k0_pay1 P _ (ix2 r g)) (chain_eq _ _ _ (cells m c t))).trans ?_) ?_
  · pointwise [k0_pay1, accTerm]
  · pointwise [k0_pay2, cntTerm]

end Cert.KernelIdeal.Value
-- ==== Proof.Array.lean ====
/-
  What the kernel's result array holds after the run: half the sum of the ten points' band products, plus half the sum
  of the ten points' counts, and every block that enters them read off the arguments.
-/
module

public import proofs.«01_k».proof.Proof.Block
public import Idealize.ShloMosaic.Lib.Pipeline.ValueKit
public import Idealize.ShloMosaic.Lib.Tactic

@[expose] public section

set_option maxRecDepth 16384

noncomputable section

namespace Cert.KernelIdeal.Value

open Idealize.ShloMosaic Idealize.ShloMosaic.TcCoe Idealize.SL.Sem
open Cert.KernelIdeal.Gen

variable (m : (ℓ : Loc nD τ sig) → Buf (Elt Ideal) ℓ)

/-- The last grid point. -/
def lastPt : Fin cfg0.N := ⟨9, by decide⟩

theorem lastPt_mod : lastPt.val % 10 = 9 := by decide

/-- After the last point the accumulator is the sum of all points' terms. -/
theorem acc_total (c : Dev nD) (i : S1024x128.Idx) :
    (outsAt0 m c lastPt.val lastPt.isLt).2.1 i = 0 + ∑ p : Fin cfg0.N, accTerm m c p i :=
  Pipeline.eq_sum_fin_of_reset_step_apply_last (fun n h => (outsAt0 m c n h).2.1) 10 (fun _ => (0 : EReal)) (accTerm m c)
    (fun t h j => acc_first m c t h j) (fun t h j => acc_step m c t h j) (by decide) lastPt (by decide) i

/-- After the last point the counts are the sum of all points' counts. -/
theorem cnt_total (c : Dev nD) (i : S8x128.Idx) :
    (outsAt0 m c lastPt.val lastPt.isLt).2.2 i = 0 + ∑ p : Fin cfg0.N, cntTerm m c p i :=
  Pipeline.eq_sum_fin_of_reset_step_apply_last (fun n h => (outsAt0 m c n h).2.2) 10 (fun _ => (0 : EReal)) (cntTerm m c)
    (fun t h j => cnt_first m c t h j) (fun t h j => cnt_step m c t h j) (by decide) lastPt (by decide) i

/-- What the kernel's array holds at graph `g` and row `r`. -/
def resultAt (c : Dev nD) (g : Fin 128) (r : Fin 1024) : EReal :=
  Ideal.ofBits .f32 0x3F000000#32 * ∑ p : Fin cfg0.N, accTerm m c p (ix2 r g)
    + Ideal.ofBits .f32 0x3F000000#32 * ∑ p : Fin cfg0.N, cntTerm m c p (ix2 0 g)

/-- What the last point writes, at graph `g` and row `r`. -/
theorem array_at (c : Dev nD) (g : Fin 128) (r : Fin 1024) :
    (outsAt0 m c lastPt.val lastPt.isLt).1 (ix2 g r) = resultAt m c g r := by
  rw [out_last m c lastPt lastPt_mod, acc_total, cnt_total, zero_add, zero_add]
  rfl

/-- The result array after all points. -/
theorem array_eq (c : Dev nD) : (dats m 0 c).arrAt 4 cfg0.N = fun i => resultAt m c (i 0) (i 1) := by
  refine (dats m 0 c).arrAt_eq_of_after_last 4 lastPt (by decide +kernel) _ fun j => ?_
  rw [after0_4]
  blk_simp
  have hj : (fun a => ⟨(j a).val, by have := (j a).isLt; fin_cases a <;> exact this⟩ : S128x1024.Idx)
      = ix2 (j 0 : Fin 128) (j 1 : Fin 1024) := by
    funext a
    fin_cases a <;> rfl
  exact (congrArg (outsAt0 m c lastPt.val lastPt.isLt).1 hj).trans (array_at m c (j 0) (j 1))

/-- Block `p` of the points starts at row `10000 p`. -/
theorem index_points : ∀ p : Fin cfg0.N, win0_0.index p = ![p.val, 0] := by decide +kernel
/-- Block `p` of the graph numbers is row `p` of their ten rows. -/
theorem index_graphs : ∀ p : Fin cfg0.N, win0_1.index p = ![p.val, 0, 0] := by decide +kernel
/-- Every point reads all directions. -/
theorem index_directions : ∀ p : Fin cfg0.N, win0_2.index p = ![0, 0] := by decide +kernel
/-- Every point reads all heights. -/
theorem index_heights : ∀ p : Fin cfg0.N, win0_3.index p = ![0, 0] := by decide +kernel

/-- The graph numbers as the kernel finds them: the argument, in ten rows of 10000. -/
theorem entry_graphs (c : Dev nD) :
    V m c main_call0_v0 = shapeCast S10x1x10000 (m ((c.tc : Thread nD τ).loc main_arg1)) shapeCasts_S100000_S10x1x10000 := by
  entry_read
  rfl

/-- The heights as the kernel finds them: the argument, as one row. -/
theorem entry_heights (c : Dev nD) :
    V m c main_call0_v1 = shapeCast S1x32 (m ((c.tc : Thread nD τ).loc main_arg3)) shapeCasts_S32x1x1_S1x32 := by
  entry_read
  rfl

/-- The block of points at grid point `p`. -/
theorem points_at (c : Dev nD) (p : Fin cfg0.N) (k : Fin 10000) (q : Fin 128) (n : Fin 100000) (hn : n.val = 10000 * p.val + k.val) :
    iblk m c 0 p (ix2 k q) = m ((c.tc : Thread nD τ).loc main_arg0) (ix2 n q) := by
  blk_point [iblk, V_main_arg0, index_points p]

/-- The block of graph numbers at grid point `p`. -/
theorem graphs_at (c : Dev nD) (p : Fin cfg0.N) (k : Fin 10000) (n : Fin 100000) (hn : n.val = 10000 * p.val + k.val) :
    iblk m c 1 p (ix3 0 0 k) = m ((c.tc : Thread nD τ).loc main_arg1) (ix1 n) := by
  have hp : p.val < 10 := p.isLt
  have e : iblk m c 1 p (ix3 0 0 k) = V m c main_call0_v0 (ix3 ⟨p.val, hp⟩ 0 k) := by
    blk_point [iblk, index_graphs p]
  rw [e, entry_graphs]
  refine congrArg _ (Shape.reshapeEquiv_eq_of_rowMajor _ ?_)
  show ((⟨1, ![100000]⟩ : Shape).rowMajor (ix1 n) : Nat) = ((⟨3, ![10, 1, 10000]⟩ : Shape).rowMajor (ix3 ⟨p.val, hp⟩ 0 k) : Nat)
  rw [rowMajor_val1, rowMajor_val3 _ 10000 10000 rfl rfl]
  show n.val = p.val * 10000 + 0 * 10000 + k.val
  omega

/-- The block of directions is the argument. -/
theorem directions_at (c : Dev nD) (p : Fin cfg0.N) (q : Fin 128) (t : Fin 32) :
    iblk m c 2 p (ix2 q t) = m ((c.tc : Thread nD τ).loc main_arg2) (ix2 q t) := by
  blk_point [iblk, V_main_arg2, index_directions p]

/-- The block of heights is the argument. -/
theorem heights_at (c : Dev nD) (p : Fin cfg0.N) (s : Fin 32) :
    iblk m c 3 p (ix2 0 s) = m ((c.tc : Thread nD τ).loc main_arg3) (ix3 s 0 0) := by
  have e : iblk m c 3 p (ix2 0 s) = V m c main_call0_v1 (ix2 0 s) := by
    blk_point [iblk, index_heights p]
  rw [e, entry_heights]
  pointwise

/-- The kernel's result: the array with its rows of 1024 cut into 32 heights times 32 directions. -/
theorem result_eq (c : Dev nD) (g : Fin 128) (s t : Fin 32) (r : Fin 1024) (hr : r.val = 32 * s.val + t.val) :
    Pipeline.afterTail₀ cfgs (dats m) 0 (V0 m) [hostOps1] c main_v0 (ix3 g s t) = resultAt m c g r := by
  have e : Pipeline.afterTail₀ cfgs (dats m) 0 (V0 m) [hostOps1] c main_v0
      = shapeCast S128x32x32 ((dats m 0 c).arrAt 4 cfg0.N) shapeCasts_S128x1024_S128x32x32 := by
    unfold Pipeline.afterTail₀
    unfold hostOps1
    simp only [List.flatten_cons, List.flatten_nil, List.append_nil]
    after_results
    exact congrArg (fun X => shapeCast S128x32x32 X shapeCasts_S128x1024_S128x32x32)
      (Pipeline.withArrays_arr spec0 (by decide) c (V0 m c) (fun w => (dats m 0 c).arrAt w (cfgs 0).N) 4)
  rw [e, array_eq]
  pointwise
  exact congrArg _ (Fin.ext (by show s.val * 32 + t.val = r.val; omega))

end Cert.KernelIdeal.Value
-- ==== Proof.Scalar.lean ====
/-
  The scalar equation: a sigmoid is half a `tanh` plus one half, at every extended real; and its form for a sum over the
  points of one graph. No program is mentioned here.
-/
module

public import Idealize.ShloMosaic.PureOps.Ideal
public import Idealize.ShloMosaic.Lib.IdealHost
public import Mathlib.Analysis.SpecialFunctions.Trigonometric.DerivHyp

@[expose] public section

noncomputable section

namespace Cert.Sigmoid

open Idealize.ShloMosaic

/-- The binary32 pattern of 25. -/
theorem word_25 : Ideal.ofBits .f32 0x41C80000#32 = ((25 : ℝ) : EReal) := by
  simp [Ideal.ofBits, Ideal.ieee, -EReal.coe_mul]; norm_num

/-- The binary32 pattern of 50. -/
theorem word_50 : Ideal.ofBits .f32 0x42480000#32 = ((50 : ℝ) : EReal) := by
  simp [Ideal.ofBits, Ideal.ieee, -EReal.coe_mul]; norm_num

/-- The binary32 pattern of one half. -/
theorem word_half : Ideal.ofBits .f32 0x3F000000#32 = ((1 / 2 : ℝ) : EReal) := by
  simp [Ideal.ofBits, Ideal.ieee, -EReal.coe_mul]; norm_num

/-- Over the reals, `1 / (1 + e^(-2w))` is `tanh w / 2 + 1 / 2`. -/
theorem real_sigmoid (w : ℝ) : (1 + Real.exp (-(2 * w)))⁻¹ = Real.tanh w / 2 + 1 / 2 := by
  have e : Real.exp (-(2 * w)) = Real.exp (-w) * Real.exp (-w) := by rw [← Real.exp_add]; congr 1; ring
  have h : Real.exp w * Real.exp (-w) = 1 := by rw [← Real.exp_add]; simp
  have hp := Real.exp_pos w
  have hn := Real.exp_pos (-w)
  rw [Real.tanh_eq_sinh_div_cosh, Real.sinh_eq, Real.cosh_eq, e]
  field_simp
  nlinarith [h]

/-- The sigmoid of fifty times a difference. -/
def sig (L H : EReal) : EReal := Ideal.div 1 (1 + Ideal.exp (-(((50 : ℝ) : EReal) * (L - H))))

/-- The `tanh` of twenty-five times a difference, each term scaled on its own. -/
def half25 (L H : EReal) : EReal := Ideal.tanh (L * ((25 : ℝ) : EReal) - H * ((25 : ℝ) : EReal))

/-- The sigmoid at plus infinity is 1. -/
theorem sig_top : Ideal.div 1 (1 + Ideal.exp (-(⊤ : EReal))) = ((1 / 2 + 1 / 2 : ℝ) : EReal) := by
  rw [EReal.neg_top, show Ideal.exp ⊥ = 0 from rfl, add_zero, Ideal.div, if_neg one_ne_zero,
    show (1 : EReal) = ((1 : ℝ) : EReal) by norm_cast, ← EReal.coe_inv, ← EReal.coe_mul]
  norm_num

/-- The sigmoid at minus infinity is 0. -/
theorem sig_bot : Ideal.div 1 (1 + Ideal.exp (-(⊥ : EReal))) = ((-1 / 2 + 1 / 2 : ℝ) : EReal) := by
  rw [EReal.neg_bot, show Ideal.exp ⊤ = ⊤ from rfl, show (1 : EReal) + ⊤ = ⊤ from rfl, Ideal.div, if_neg EReal.top_ne_zero,
    EReal.inv_top, mul_zero]
  norm_num

/-- At all extended reals `L` and `H` the `tanh` is a real number `τ`, and the sigmoid is `τ / 2 + 1 / 2`. -/
theorem sig_eq (L H : EReal) : ∃ τ : ℝ, half25 L H = (τ : EReal) ∧ sig L H = ((τ / 2 + 1 / 2 : ℝ) : EReal) := by
  have h25 : (0 : ℝ) < 25 := by norm_num
  have h50 : (0 : ℝ) < 50 := by norm_num
  have up : L * ((25 : ℝ) : EReal) - H * ((25 : ℝ) : EReal) = ⊤ → L - H = ⊤ →
      ∃ τ : ℝ, half25 L H = (τ : EReal) ∧ sig L H = ((τ / 2 + 1 / 2 : ℝ) : EReal) := fun a b =>
    ⟨1, by rw [half25, a]; rfl, by rw [sig, b, EReal.coe_mul_top_of_pos h50, sig_top]⟩
  have down : L * ((25 : ℝ) : EReal) - H * ((25 : ℝ) : EReal) = ⊥ → L - H = ⊥ →
      ∃ τ : ℝ, half25 L H = (τ : EReal) ∧ sig L H = ((τ / 2 + 1 / 2 : ℝ) : EReal) := fun a b =>
    ⟨-1, by rw [half25, a]; rfl, by rw [sig, b, EReal.coe_mul_bot_of_pos h50, sig_bot]⟩
  induction L with
  | bot => exact down (by rw [EReal.bot_mul_coe_of_pos h25, EReal.bot_sub]) (EReal.bot_sub _)
  | top =>
    induction H with
    | bot => exact up (by rw [EReal.bot_mul_coe_of_pos h25, EReal.top_mul_coe_of_pos h25]; rfl) rfl
    | top => exact down (by rw [EReal.top_mul_coe_of_pos h25]; rfl) rfl
    | coe h => exact up (by rw [EReal.top_mul_coe_of_pos h25, ← EReal.coe_mul]; rfl) rfl
  | coe l =>
    induction H with
    | bot => exact up (by rw [EReal.bot_mul_coe_of_pos h25, ← EReal.coe_mul]; rfl) rfl
    | top => exact down (by rw [EReal.top_mul_coe_of_pos h25, ← EReal.coe_mul]; rfl) rfl
    | coe h =>
      refine ⟨Real.tanh (l * 25 - h * 25), ?_, ?_⟩
      · rw [half25, ← EReal.coe_mul, ← EReal.coe_mul, ← EReal.coe_sub]; rfl
      · rw [sig, ← EReal.coe_sub, ← EReal.coe_mul, ← EReal.coe_neg,
          show Ideal.exp ((-(50 * (l - h)) : ℝ) : EReal) = ((Real.exp (-(50 * (l - h))) : ℝ) : EReal) from rfl,
          show (1 : EReal) = ((1 : ℝ) : EReal) by norm_cast, ← EReal.coe_add]
        have hpos : (0 : ℝ) < 1 + Real.exp (-(50 * (l - h))) := by positivity
        rw [Ideal.div, if_neg (by exact_mod_cast hpos.ne'), ← EReal.coe_inv, ← EReal.coe_mul, one_mul,
          show (50 * (l - h)) = 2 * (l * 25 - h * 25) by ring, real_sigmoid]

/-- Half the sum of the `tanh` values over the points that are hit, plus half their number, is the sum of the sigmoids
    over the points that are hit. -/
theorem sum_eq {ι : Type} [Fintype ι] (L : EReal) (H : ι → EReal) (p : ι → Prop) [DecidablePred p] :
    ((1 / 2 : ℝ) : EReal) * ∑ n, half25 L (H n) * (if p n then (1 : EReal) else 0)
        + ((1 / 2 : ℝ) : EReal) * ∑ n, (if p n then (1 : EReal) else 0)
      = ∑ n, if p n then sig L (H n) else 0 := by
  choose τ hτ hs using fun n => sig_eq L (H n)
  have one : ∀ n, (if p n then (1 : EReal) else 0) = (((if p n then 1 else 0) : ℝ) : EReal) := fun n => by split <;> simp
  have sg : ∀ n, (if p n then sig L (H n) else 0) = (((if p n then τ n / 2 + 1 / 2 else 0) : ℝ) : EReal) := fun n => by
    split
    · exact hs n
    · rfl
  have cs : ∀ f : ι → ℝ, ∑ n, ((f n : ℝ) : EReal) = ((∑ n, f n : ℝ) : EReal) := fun f =>
    (map_sum (⟨⟨Real.toEReal, rfl⟩, EReal.coe_add⟩ : ℝ →+ EReal) f Finset.univ).symm
  simp only [hτ, one, sg, ← EReal.coe_mul, cs, ← EReal.coe_add]
  congr 1
  rw [Finset.mul_sum, Finset.mul_sum, ← Finset.sum_add_distrib]
  refine Finset.sum_congr rfl fun n _ => ?_
  split <;> ring

end Cert.Sigmoid
-- ==== Proof.Total.lean ====
/-
  The kernel's result read off the arguments: the sums over ten blocks of 10000 points become sums over all 100000
  points, and half the `tanh` sum plus half the count becomes the sum of the sigmoids of a graph's points.
-/
module

public import proofs.«01_k».proof.Proof.Array
public import proofs.«01_k».proof.Proof.Scalar

@[expose] public section

set_option maxRecDepth 16384

noncomputable section

namespace Cert.KernelIdeal.Value

open Idealize.ShloMosaic Idealize.ShloMosaic.TcCoe Idealize.SL.Sem
open Cert.KernelIdeal.Gen

variable (m : (ℓ : Loc nD τ sig) → Buf (Elt Ideal) ℓ)

/-- The points the kernel is given. -/
abbrev pointsArg (c : Dev nD) : FVec Ideal S100000x128 .f32 := m ((c.tc : Thread nD τ).loc main_arg0)
/-- The graph numbers the kernel is given. -/
abbrev graphsArg (c : Dev nD) : IVec S100000 32 := m ((c.tc : Thread nD τ).loc main_arg1)
/-- The directions the kernel is given. -/
abbrev directionsArg (c : Dev nD) : FVec Ideal S128x32 .f32 := m ((c.tc : Thread nD τ).loc main_arg2)
/-- The heights the kernel is given. -/
abbrev heightsArg (c : Dev nD) : FVec Ideal S32x1x1 .f32 := m ((c.tc : Thread nD τ).loc main_arg3)

/-- The height of point `n` in direction `t`, as the kernel multiplies it out: direction first. -/
def heightOf (c : Dev nD) (n : Fin 100000) (t : Fin 32) : EReal :=
  ∑ q : Fin 128, directionsArg m c (ix2 q t) * pointsArg m c (ix2 n q)

/-- The height `s` of the grid of heights. -/
def levelOf (c : Dev nD) (s : Fin 32) : EReal := heightsArg m c (ix3 s 0 0)

/-- The graph number of point `n`. -/
def graphOf (c : Dev nD) (n : Fin 100000) : BitVec 32 := graphsArg m c (ix1 n)

/-- One block's `tanh` sum, with its points numbered in the whole array. -/
theorem accTerm_at (c : Dev nD) (p : Fin 10) (g : Fin 128) (s t : Fin 32) (r : Fin 1024) (hr : r.val = 32 * s.val + t.val) :
    accTerm m c p (ix2 r g) = ∑ k : Fin 10000, Cert.Sigmoid.half25 (levelOf m c s) (heightOf m c ⟨p.val * 10000 + k.val, by omega⟩ t)
      * hit g (graphOf m c ⟨p.val * 10000 + k.val, by omega⟩) := by
  refine (bandProd_at (iblk m c 0 p) (iblk m c 1 p) (iblk m c 2 p) (cells m c p) s t r hr g).trans ?_
  refine Finset.sum_congr rfl fun k _ => ?_
  have hn : p.val * 10000 + k.val = 10000 * p.val + k.val := by omega
  have hg := graphs_at m c p k ⟨p.val * 10000 + k.val, by omega⟩ hn
  have hl : cells m c p s (ix2 0 0) = levelOf m c s := heights_at m c p s
  refine congrArg₂ (fun y z : EReal => y * z) ((band_at (iblk m c 0 p) (iblk m c 2 p) (cells m c p s) t k).trans ?_) (congrArg (hit g) hg)
  rw [hl, Cert.Sigmoid.word_25]
  refine congrArg (fun z : EReal => Ideal.tanh (levelOf m c s * ((25 : ℝ) : EReal) - z * ((25 : ℝ) : EReal))) ?_
  refine Finset.sum_congr rfl fun q _ => ?_
  exact congrArg₂ (fun y z : EReal => y * z) (directions_at m c p q t) (points_at m c p k q ⟨p.val * 10000 + k.val, by omega⟩ hn)

/-- One block's count, with its points numbered in the whole array. -/
theorem cntTerm_at (c : Dev nD) (p : Fin 10) (g : Fin 128) :
    cntTerm m c p (ix2 0 g) = ∑ k : Fin 10000, hit g (graphOf m c ⟨p.val * 10000 + k.val, by omega⟩) := by
  refine (count_at (iblk m c 1 p) 0 g).trans ?_
  exact Finset.sum_congr rfl fun k _ => congrArg (hit g) (graphs_at m c p k ⟨p.val * 10000 + k.val, by omega⟩ (by show _ * _ + _ = _; omega))

/-- What the kernel's array holds: the sum of the sigmoids of the graph's points. -/
theorem resultAt_eq (c : Dev nD) (g : Fin 128) (s t : Fin 32) (r : Fin 1024) (hr : r.val = 32 * s.val + t.val) :
    resultAt m c g r = ∑ n : Fin 100000,
      if graphOf m c n = BitVec.ofNat 32 g.val then Cert.Sigmoid.sig (levelOf m c s) (heightOf m c n t) else 0 := by
  have ha : ∑ p : Fin cfg0.N, accTerm m c p (ix2 r g)
      = ∑ n : Fin 100000, Cert.Sigmoid.half25 (levelOf m c s) (heightOf m c n t) * hit g (graphOf m c n) :=
    (Finset.sum_congr rfl fun p _ => accTerm_at m c p g s t r hr).trans
      (Fin.sum_mul_add_fin 10 10000
        (fun n : Fin 100000 => Cert.Sigmoid.half25 (levelOf m c s) (heightOf m c n t) * hit g (graphOf m c n)) (by norm_num))
  have hc : ∑ p : Fin cfg0.N, cntTerm m c p (ix2 0 g) = ∑ n : Fin 100000, hit g (graphOf m c n) :=
    (Finset.sum_congr rfl fun p _ => cntTerm_at m c p g).trans
      (Fin.sum_mul_add_fin 10 10000 (fun n : Fin 100000 => hit g (graphOf m c n)) (by norm_num))
  unfold resultAt
  rw [ha, hc, Cert.Sigmoid.word_half]
  exact Cert.Sigmoid.sum_eq (levelOf m c s) (fun n => heightOf m c n t) (fun n => graphOf m c n = BitVec.ofNat 32 g.val)

end Cert.KernelIdeal.Value
-- ==== Proof.Reference.lean ====
/-
  What the reference computes: at graph `g`, height `s` and direction `t`, the sum of the sigmoids of the points whose
  graph number is `g`. The graph numbers are taken to be at least zero, where the reference's wrap of a negative index
  does nothing.
-/
module

public import proofs.«01_k».proof.Proof.Gen.ReferenceIdeal.Run
public import proofs.«01_k».proof.Proof.Scalar
public import Idealize.ShloMosaic.Lib.Pointwise
public import Idealize.ShloMosaic.Lib.Routing.OpsPair
public import Idealize.ShloMosaic.Lib.Tactic

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Sigmoid

/-- The reference's scatter: its dimension numbers. -/
abbrev scat : ScatterDims S32x128x32 S100000x1 S32x100000x32 := scatter_S32x128x32_S100000x1_S32x100000x32_02_1_1_1

/-- The update of height `s'`, point `n` and direction `t'` lands at `(s, g, t)` exactly when height and direction agree
    and the point's index word, read with its sign, is `g`. -/
theorem lands_at (idx : IVec S100000x1 32) (s' t' s t : Fin 32) (n : Fin 100000) (g : Fin 128) :
    scat.resultIdx? (ix3 s' n t') idx = some (ix3 s g t) ↔ s' = s ∧ (idx (ix2 n 0)).toInt = (g.val : Int) ∧ t' = t := by
  have s0 : scat.start (ix3 s' n t') idx 0 = 0 := rfl
  have s1 : scat.start (ix3 s' n t') idx 1 = (idx (ix2 n 0)).toInt := by
    show (idx _).toInt = _
    congr 2
    funext a
    fin_cases a <;> rfl
  have s2 : scat.start (ix3 s' n t') idx 2 = 0 := rfl
  have w0 : scat.window (ix3 s' n t') 0 = s'.val := rfl
  have w1 : scat.window (ix3 s' n t') 1 = 0 := rfl
  have w2 : scat.window (ix3 s' n t') 2 = t'.val := rfl
  rw [Idealize.ShloMosaic.Routing.resultIdx?_eq_some]
  constructor
  · intro h
    have h0 := h 0
    have h1 := h 1
    have h2 := h 2
    rw [s0, w0] at h0
    rw [s1, w1] at h1
    rw [s2, w2] at h2
    change (0 : Int) + (s'.val : Int) = (s.val : Int) at h0
    change (idx (ix2 n 0)).toInt + ((0 : Nat) : Int) = (g.val : Int) at h1
    change (0 : Int) + (t'.val : Int) = (t.val : Int) at h2
    exact ⟨Fin.ext (by omega), by omega, Fin.ext (by omega)⟩
  · rintro ⟨rfl, h1, rfl⟩ a
    fin_cases a
    · show scat.start (ix3 s' n t') idx 0 + (scat.window (ix3 s' n t') 0 : Int) = (s'.val : Int)
      rw [s0, w0, zero_add]
    · show scat.start (ix3 s' n t') idx 1 + (scat.window (ix3 s' n t') 1 : Int) = (g.val : Int)
      rw [s1, w1, h1]
      simp
    · show scat.start (ix3 s' n t') idx 2 + (scat.window (ix3 s' n t') 2 : Int) = (t'.val : Int)
      rw [s2, w2, zero_add]

/-- The accumulating scatter at one index: the operand's element plus the updates of the points whose index word is `g`. -/
theorem scatter_at (x : S32x128x32.Idx → EReal) (idx : IVec S100000x1 32) (upd : S32x100000x32.Idx → EReal) (s t : Fin 32) (g : Fin 128) :
    Ideal.hostScatterAdd scat x idx upd (ix3 s g t)
      = x (ix3 s g t) + ∑ n : Fin 100000, if (idx (ix2 n 0)).toInt = (g.val : Int) then upd (ix3 s n t) else 0 := by
  show x (ix3 s g t) + _ = _
  refine congrArg (x (ix3 s g t) + ·) ?_
  rw [Finset.sum_filter]
  refine (sum_idx3 _).trans ?_
  simp only [lands_at]
  rw [Finset.sum_eq_single s (fun b _ hb => by simp [hb]) (by simp)]
  refine Finset.sum_congr rfl fun n _ => ?_
  rw [Finset.sum_eq_single t (fun b _ hb => by simp [hb]) (by simp)]
  simp

/-- The index words the reference scatters by: the graph numbers, a negative one wrapped once. -/
def words (b : IVec S100000 32) : IVec S100000x1 32 :=
  broadcastInDim S100000x1 ![0] bcast_S100000_S100000x1_0 (select (cmpi .slt b (broadcastInDim S100000 ![] bcast_S_S100000 (constantI S_ 32 0#32))) (addi b (broadcastInDim S100000 ![] bcast_S_S100000 (constantI S_ 32 128#32))) b)

/-- The reference's sigmoids, before they are summed over a graph's points. -/
def sigmoids (x : FVec Ideal S100000x128 .f32) (v : FVec Ideal S128x32 .f32) (l : FVec Ideal S32x1x1 .f32) :
    FVec Ideal S32x100000x32 .f32 :=
  Host.divf (broadcastInDim S32x100000x32 ![] bcast_S_S32x100000x32 (constant S_ .f32 0x3F800000#32)) (addf (broadcastInDim S32x100000x32 ![] bcast_S_S32x100000x32 (constant S_ .f32 0x3F800000#32)) (Host.exp (Host.negf (mulf (broadcastInDim S32x100000x32 ![] bcast_S_S32x100000x32 (constant S_ .f32 0x42480000#32)) (subf (broadcastInDim S32x100000x32 ![0, 1, 2] bcast_S32x1x1_S32x100000x32_0_1_2 l) (broadcastInDim S32x100000x32 ![0, 1, 2] bcast_S1x100000x32_S32x100000x32_0_1_2 (broadcastInDim S1x100000x32 ![1, 2] bcast_S100000x32_S1x100000x32_1_2 (Host.dotGeneral dot_S100000x128_S128x32_S100000x32_1_0_0_1_n_n none x v))))))))

/-- The reference's result as one function of the four arguments. -/
def result (x : FVec Ideal S100000x128 .f32) (b : IVec S100000 32) (v : FVec Ideal S128x32 .f32) (l : FVec Ideal S32x1x1 .f32) :
    FVec Ideal S128x32x32 .f32 :=
  transpose S128x32x32 [1, 0, 2] (Host.scatterAdd scatter_S32x128x32_S100000x1_S32x100000x32_02_1_1_1 (broadcastInDim S32x128x32 ![] bcast_S_S32x128x32 (constant S_ .f32 0x00000000#32)) (words b) (sigmoids x v l)) transposes_S32x128x32_S128x32x32_1_0_2

/-- The height of a point `x` in direction `v`: their inner product. -/
def height (x : FVec Ideal S100000x128 .f32) (v : FVec Ideal S128x32 .f32) (n : Fin 100000) (t : Fin 32) : EReal :=
  ∑ q : Fin 128, x (ix2 n q) * v (ix2 q t)

/-- One sigmoid of the reference. -/
theorem sigmoids_at (x : FVec Ideal S100000x128 .f32) (v : FVec Ideal S128x32 .f32) (l : FVec Ideal S32x1x1 .f32)
    (s t : Fin 32) (n : Fin 100000) :
    sigmoids x v l (ix3 s n t) = Cert.Sigmoid.sig (l (ix3 s 0 0)) (height x v n t) := by
  pointwise [sigmoids]
  rw [word_50]
  rfl

/-- With graph numbers that are at least zero, an index word is the graph number itself. -/
theorem words_at (b : IVec S100000 32) (n : Fin 100000) (h : 0 ≤ (b (ix1 n)).toInt) :
    words b (ix2 n 0) = b (ix1 n) := by
  pointwise [words]
  have hs : (b (ix1 n)).slt 0#32 = false := by
    rw [BitVec.slt_eq_decide]
    simpa using h
  simp [IntOp.cmpi, hs, Scalar.select]

/-- A word that is at least zero names graph `g` exactly when it is the word of `g`. -/
theorem toInt_eq_iff (w : BitVec 32) (g : Fin 128) : w.toInt = (g.val : Int) ↔ w = BitVec.ofNat 32 g.val := by
  have hg := g.isLt
  have e : (BitVec.ofNat 32 g.val).toInt = (g.val : Int) := by
    have k : (BitVec.ofNat 32 g.val).toNat = g.val := by
      rw [BitVec.toNat_ofNat]
      omega
    rw [BitVec.toInt_eq_toNat_of_lt (by omega), k]
  rw [← e]
  exact BitVec.toInt_inj

/-- The reference's result at graph `g`, height `s` and direction `t`. -/
theorem result_at (x : FVec Ideal S100000x128 .f32) (b : IVec S100000 32) (v : FVec Ideal S128x32 .f32) (l : FVec Ideal S32x1x1 .f32)
    (h : ∀ n, 0 ≤ (b (ix1 n)).toInt) (g : Fin 128) (s t : Fin 32) :
    result x b v l (ix3 g s t)
      = ∑ n : Fin 100000, if b (ix1 n) = BitVec.ofNat 32 g.val then Cert.Sigmoid.sig (l (ix3 s 0 0)) (height x v n t) else 0 := by
  have e : result x b v l (ix3 g s t)
      = Ideal.hostScatterAdd scat (broadcastInDim S32x128x32 ![] bcast_S_S32x128x32 (constant (F := Ideal) S_ .f32 0x00000000#32)) (words b) (sigmoids x v l) (ix3 s g t) := by
    pointwise [result]
    rfl
  rw [e, scatter_at]
  have z : broadcastInDim S32x128x32 ![] bcast_S_S32x128x32 (constant (F := Ideal) S_ .f32 0x00000000#32) (ix3 s g t) = (0 : EReal) :=
    Ideal.ofBits_zero_f32
  rw [z, zero_add]
  refine Finset.sum_congr rfl fun n _ => ?_
  rw [words_at b n (h n), sigmoids_at]
  simp only [toInt_eq_iff]

end Cert.ReferenceIdeal.Value
-- ==== Proof.Equation.lean ====
/-
  The equation: from arguments that agree, with no negative graph number, the kernel's result array is the reference's.
-/
module

public import proofs.«01_k».proof.Proof.Total
public import proofs.«01_k».proof.Proof.Reference

@[expose] public section

set_option maxRecDepth 16384

noncomputable section

namespace Cert.Equation

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- The kernel's result array is the reference's function of the kernel's arguments. -/
theorem result_eq_reference (c : Dev nD) (h : ∀ n : Fin 100000, 0 ≤ (graphOf m c n).toInt) :
    Pipeline.afterTail₀ cfgs (dats m) 0 (V0 m) [hostOps1] c main_v0
      = Cert.ReferenceIdeal.Value.result (pointsArg m c) (graphsArg m c)
          (directionsArg m c) (heightsArg m c) := by
  refine funext fun (i : S128x32x32.Idx) => ?_
  obtain ⟨g, s, t, rfl⟩ : ∃ (g : Fin 128) (s t : Fin 32), i = ix3 g s t := ⟨i 0, i 1, i 2, (ix3_eta i).symm⟩
  have hr : (⟨32 * s.val + t.val, by omega⟩ : Fin 1024).val = 32 * s.val + t.val := rfl
  refine (Cert.KernelIdeal.Value.result_eq m c g s t _ hr).trans ((resultAt_eq m c g s t _ hr).trans ?_)
  refine Eq.trans ?_ (Cert.ReferenceIdeal.Value.result_at _ _ _ _ h g s t).symm
  refine Finset.sum_congr rfl fun n _ => ?_
  have hh : heightOf m c n t = Cert.ReferenceIdeal.Value.height (pointsArg m c) (directionsArg m c) n t :=
    Finset.sum_congr rfl fun q _ => mul_comm _ _
  rw [hh]
  rfl

end Cert.Equation
-- ==== Proof.lean ====
/-
  The certificate: the three frames, the idealisation, and that the kernel and the reference end with equal arrays. The
  mathematics is in the modules under Proof/; here the generated runs are read at it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The one fact the precondition's term states: a scalar broadcasts to the graph numbers. -/
instance preFacts : Cert.Pre_no_negative_graph.Facts := ⟨by decide⟩

/-- The reference runs, leaves its arguments as they are, and has no semaphore that could end off zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The precondition, at one point: its graph number is at least zero. -/
theorem graph_nonneg (m : (ℓ : Loc Cert.KernelIdeal.nD Cert.KernelIdeal.τ Cert.KernelIdeal.sig) → Buf (Elt Ideal) ℓ)
    (h : Cert.Pre_KernelIdeal_no_negative_graph m) (c : Dev Cert.KernelIdeal.nD) (n : Fin 100000) :
    0 ≤ (Cert.KernelIdeal.Value.graphOf m c n).toInt := by
  have e : IntOp.cmpi .sge (Cert.KernelIdeal.Value.graphOf m c n) 0#32 = 1#1 := congrFun (h c) (ix1 n)
  by_contra hn
  have hs : (0#32).sle (Cert.KernelIdeal.Value.graphOf m c n) = false := by
    rw [BitVec.sle_eq_decide]
    simpa using hn
  simp [IntOp.cmpi, hs] at e

/-- The kernel and the reference, from arguments that agree and hold no negative graph number, end with equal results. -/
theorem algebraic : Cert.algebraic_KernelIdeal_ReferenceIdeal_pre_no_negative_graph := by
  intro m ρ m' ρ' hpre hagree
  refine ⟨fun c => Cert.ReferenceIdeal.Value.result (Cert.KernelIdeal.Value.pointsArg m c) (Cert.KernelIdeal.Value.graphsArg m c)
    (Cert.KernelIdeal.Value.directionsArg m c) (Cert.KernelIdeal.Value.heightsArg m c), ?_, ?_⟩
  · refine (θ_run Cert.KernelIdeal.defs _ _).mono (fun r h c => ⟨?_, h.2 c⟩)
      (θ_run_and (Cert.KernelIdeal.Gen.run_main m ρ) (Cert.KernelIdeal.Gen.unchanged m ρ))
    refine ((h.1 c).2 Cert.KernelIdeal.main_v0 (Pipeline.mem_restRefs_of Cert.KernelIdeal.main_v0 (by decide) (by decide))).trans ?_
    exact Cert.Equation.result_eq_reference m c (graph_nonneg m hpre c)
  · refine (θ_run Cert.ReferenceIdeal.defs _ _).mono (fun r h c => ⟨(h c).1.trans ?_, (h c).2⟩)
      (Cert.ReferenceIdeal.Value.run (F := Ideal) m' ρ')
    obtain ⟨h0, h1, h2, h3⟩ := hagree c
    rw [h0, h1, h2, h3]
    rfl

/-- Everything claimed. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    algebraic⟩

end Cert.Proof

end
